-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Call (m : (ℓ : Loc Cert.Call.nD Cert.Call.τ Cert.Call.sig) → Buf (Elt Bits) ℓ) : Prop :=
  True

def Pre_CallIdeal (m : (ℓ : Loc Cert.CallIdeal.nD Cert.CallIdeal.τ Cert.CallIdeal.sig) → Buf (Elt Ideal) ℓ) : Prop :=
  True

def Pre_CandidatesIdeal (m : (ℓ : Loc Cert.CandidatesIdeal.nD Cert.CandidatesIdeal.τ Cert.CandidatesIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Call [hCall : Cert.Call.Facts] : Prop :=
  ∀ (m : (ℓ : Loc Cert.Call.nD Cert.Call.τ Cert.Call.sig) → Buf (Elt Bits) ℓ) (g : Dev Cert.Call.nD → PrngReg), Pre_Call m →
    θ_run (Cert.Call.defs (F := Bits)) (onTc (τ := Cert.Call.τ) (Cert.Call.main (F := Bits))) ⟨m, fun _ => 0, g⟩ (fun r => (∀ c : Dev Cert.Call.nD,
      r.2.mem ((c.tc : Thread Cert.Call.nD Cert.Call.τ).loc Cert.Call.main_arg0) = m ((c.tc : Thread Cert.Call.nD Cert.Call.τ).loc Cert.Call.main_arg0))
      ∧ r.2.sem = fun _ => 0)

def quiescent_CallIdeal [hCallIdeal : Cert.CallIdeal.Facts] : Prop :=
  ∀ (m : (ℓ : Loc Cert.CallIdeal.nD Cert.CallIdeal.τ Cert.CallIdeal.sig) → Buf (Elt Ideal) ℓ) (g : Dev Cert.CallIdeal.nD → PrngReg), Pre_CallIdeal m →
    θ_run (Cert.CallIdeal.defs (F := Ideal)) (onTc (τ := Cert.CallIdeal.τ) (Cert.CallIdeal.main (F := Ideal))) ⟨m, fun _ => 0, g⟩ (fun r => (∀ c : Dev Cert.CallIdeal.nD,
      r.2.mem ((c.tc : Thread Cert.CallIdeal.nD Cert.CallIdeal.τ).loc Cert.CallIdeal.main_arg0) = m ((c.tc : Thread Cert.CallIdeal.nD Cert.CallIdeal.τ).loc Cert.CallIdeal.main_arg0))
      ∧ r.2.sem = fun _ => 0)

def quiescent_CandidatesIdeal [hCandidatesIdeal : Cert.CandidatesIdeal.Facts] : Prop :=
  ∀ (m : (ℓ : Loc Cert.CandidatesIdeal.nD Cert.CandidatesIdeal.τ Cert.CandidatesIdeal.sig) → Buf (Elt Ideal) ℓ) (g : Dev Cert.CandidatesIdeal.nD → PrngReg), Pre_CandidatesIdeal m →
    θ_run (Cert.CandidatesIdeal.defs (F := Ideal)) (onTc (τ := Cert.CandidatesIdeal.τ) (Cert.CandidatesIdeal.main (F := Ideal))) ⟨m, fun _ => 0, g⟩ (fun r => (∀ c : Dev Cert.CandidatesIdeal.nD,
      r.2.mem ((c.tc : Thread Cert.CandidatesIdeal.nD Cert.CandidatesIdeal.τ).loc Cert.CandidatesIdeal.main_arg0) = m ((c.tc : Thread Cert.CandidatesIdeal.nD Cert.CandidatesIdeal.τ).loc Cert.CandidatesIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v3)) (v1 : (c : Dev Cert.Kernel.nD) → Buf (Elt Bits) ((c.tc : Thread Cert.Kernel.nD Cert.Kernel.τ).loc Cert.Kernel.main_v5)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_v5) = v1 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v3) = v0 c
          ∧ r.2.mem ((c.tc : Thread Cert.Reference.nD Cert.Reference.τ).loc Cert.Reference.main_v2) = v1 c
          ∧ r.2.mem ((c.tc : Thread Cert.Reference.nD Cert.Reference.τ).loc Cert.Reference.main_arg0) = m' ((c.tc : Thread Cert.Reference.nD Cert.Reference.τ).loc Cert.Reference.main_arg0))

def preserves_Call_CallIdeal : Prop :=
  True

def algebraic_CallIdeal_CandidatesIdeal [hCallIdeal : Cert.CallIdeal.Facts] [hCandidatesIdeal : Cert.CandidatesIdeal.Facts] : Prop :=
  ∀ (m : (ℓ : Loc Cert.CallIdeal.nD Cert.CallIdeal.τ Cert.CallIdeal.sig) → Buf (Elt Ideal) ℓ) (g : Dev Cert.CallIdeal.nD → PrngReg)
    (m' : (ℓ : Loc Cert.CandidatesIdeal.nD Cert.CandidatesIdeal.τ Cert.CandidatesIdeal.sig) → Buf (Elt Ideal) ℓ) (g' : Dev Cert.CandidatesIdeal.nD → PrngReg), Pre_CallIdeal m →
    (∀ c : Dev Cert.CallIdeal.nD,
      m' ((c.tc : Thread Cert.CandidatesIdeal.nD Cert.CandidatesIdeal.τ).loc Cert.CandidatesIdeal.main_arg0) = m ((c.tc : Thread Cert.CallIdeal.nD Cert.CallIdeal.τ).loc Cert.CallIdeal.main_arg0)) →
    ∃ (v0 : (c : Dev Cert.CallIdeal.nD) → Buf (Elt Ideal) ((c.tc : Thread Cert.CallIdeal.nD Cert.CallIdeal.τ).loc Cert.CallIdeal.main_v1_0)) (v1 : (c : Dev Cert.CallIdeal.nD) → Buf (Elt Ideal) ((c.tc : Thread Cert.CallIdeal.nD Cert.CallIdeal.τ).loc Cert.CallIdeal.main_v1_1)),
      θ_run (Cert.CallIdeal.defs (F := Ideal)) (onTc (τ := Cert.CallIdeal.τ) (Cert.CallIdeal.main (F := Ideal))) ⟨m, fun _ => 0, g⟩ (fun r => ∀ c : Dev Cert.CallIdeal.nD,
          r.2.mem ((c.tc : Thread Cert.CallIdeal.nD Cert.CallIdeal.τ).loc Cert.CallIdeal.main_v1_0) = v0 c
          ∧ r.2.mem ((c.tc : Thread Cert.CallIdeal.nD Cert.CallIdeal.τ).loc Cert.CallIdeal.main_v1_1) = v1 c
          ∧ r.2.mem ((c.tc : Thread Cert.CallIdeal.nD Cert.CallIdeal.τ).loc Cert.CallIdeal.main_arg0) = m ((c.tc : Thread Cert.CallIdeal.nD Cert.CallIdeal.τ).loc Cert.CallIdeal.main_arg0))
      ∧ θ_run (Cert.CandidatesIdeal.defs (F := Ideal)) (onTc (τ := Cert.CandidatesIdeal.τ) (Cert.CandidatesIdeal.main (F := Ideal))) ⟨m', fun _ => 0, g'⟩ (fun r => ∀ c : Dev Cert.CandidatesIdeal.nD,
          r.2.mem ((c.tc : Thread Cert.CandidatesIdeal.nD Cert.CandidatesIdeal.τ).loc Cert.CandidatesIdeal.main_v0) = v0 c
          ∧ r.2.mem ((c.tc : Thread Cert.CandidatesIdeal.nD Cert.CandidatesIdeal.τ).loc Cert.CandidatesIdeal.main_v2) = v1 c
          ∧ r.2.mem ((c.tc : Thread Cert.CandidatesIdeal.nD Cert.CandidatesIdeal.τ).loc Cert.CandidatesIdeal.main_arg0) = m' ((c.tc : Thread Cert.CandidatesIdeal.nD Cert.CandidatesIdeal.τ).loc Cert.CandidatesIdeal.main_arg0))

def Claim : Prop :=
  ∃ (hKernel : Cert.Kernel.Facts) (hKernelIdeal : Cert.KernelIdeal.Facts) (hReferenceIdeal : Cert.ReferenceIdeal.Facts) (hReference : Cert.Reference.Facts) (hCall : Cert.Call.Facts) (hCallIdeal : Cert.CallIdeal.Facts) (hCandidatesIdeal : Cert.CandidatesIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Call (hCall := hCall)
    ∧ quiescent_CallIdeal (hCallIdeal := hCallIdeal)
    ∧ quiescent_CandidatesIdeal (hCandidatesIdeal := hCandidatesIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Call_CallIdeal
    ∧ algebraic_CallIdeal_CandidatesIdeal (hCallIdeal := hCallIdeal) (hCandidatesIdeal := hCandidatesIdeal)
-- ==== Kernel.lean ====
abbrev S64x32768 : Shape := ⟨2, ![64, 32768]⟩
abbrev S8x128 : Shape := ⟨2, ![8, 128]⟩
abbrev S1x0 : Shape := ⟨2, ![1, 0]⟩
abbrev S64x0 : Shape := ⟨2, ![64, 0]⟩

abbrev nBuf : Space → Nat
  | .hbm => 8
  | .vmem => 3
  | .smem => 0
  | _ => 0

abbrev bufTy : (tb : Table) → Fin (tcTables nBuf tb) → BufTy
  | .hbm, ⟨0, _⟩ => ⟨S64x32768, .f32⟩
  | .hbm, ⟨1, _⟩ => ⟨S8x128, .f32⟩
  | .hbm, ⟨2, _⟩ => ⟨S8x128, .f32⟩
  | .hbm, ⟨3, _⟩ => ⟨S8x128, .i32⟩
  | .hbm, ⟨4, _⟩ => ⟨S1x0, .f32⟩
  | .hbm, ⟨5, _⟩ => ⟨S64x0, .f32⟩
  | .hbm, ⟨6, _⟩ => ⟨S1x0, .i32⟩
  | .hbm, ⟨7, _⟩ => ⟨S64x0, .i32⟩
  | .local _ .vmem, ⟨0, _⟩ => ⟨S8x128, .f32⟩
  | .local _ .vmem, ⟨1, _⟩ => ⟨S8x128, .f32⟩
  | .local _ .vmem, ⟨2, _⟩ => ⟨S8x128, .i32⟩
  | _, _ => ⟨S64x32768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference.lean ====
abbrev S64x32768 : Shape := ⟨2, ![64, 32768]⟩
abbrev S64x0 : Shape := ⟨2, ![64, 0]⟩

abbrev nBuf : Space → Nat
  | .hbm => 7
  | .vmem => 0
  | .smem => 0
  | _ => 0

abbrev bufTy : (tb : Table) → Fin (tcTables nBuf tb) → BufTy
  | .hbm, ⟨0, _⟩ => ⟨S64x32768, .f32⟩
  | .hbm, ⟨1, _⟩ => ⟨S64x32768, .f32⟩
  | .hbm, ⟨2, _⟩ => ⟨S64x32768, .f32⟩
  | .hbm, ⟨3, _⟩ => ⟨S64x32768, .i32⟩
  | .hbm, ⟨4, _⟩ => ⟨S64x0, .f32⟩
  | .hbm, ⟨5, _⟩ => ⟨S64x0, .i32⟩
  | .hbm, ⟨6, _⟩ => ⟨S64x0, .f32⟩
  | _, _ => ⟨S64x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_values : Ref sig .tc := ⟨.hbm, 2, rfl⟩
abbrev main_indices : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Call.lean ====
abbrev S64x32768 : Shape := ⟨2, ![64, 32768]⟩
abbrev S8x128 : Shape := ⟨2, ![8, 128]⟩

abbrev nBuf : Space → Nat
  | .hbm => 4
  | .vmem => 3
  | .smem => 0
  | _ => 0

abbrev bufTy : (tb : Table) → Fin (tcTables nBuf tb) → BufTy
  | .hbm, ⟨0, _⟩ => ⟨S64x32768, .f32⟩
  | .hbm, ⟨1, _⟩ => ⟨S8x128, .f32⟩
  | .hbm, ⟨2, _⟩ => ⟨S8x128, .f32⟩
  | .hbm, ⟨3, _⟩ => ⟨S8x128, .i32⟩
  | .local _ .vmem, ⟨0, _⟩ => ⟨S8x128, .f32⟩
  | .local _ .vmem, ⟨1, _⟩ => ⟨S8x128, .f32⟩
  | .local _ .vmem, ⟨2, _⟩ => ⟨S8x128, .i32⟩
  | _, _ => ⟨S64x32768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== CandidatesIdeal.lean ====
abbrev S64x32768 : Shape := ⟨2, ![64, 32768]⟩
abbrev S8x128 : Shape := ⟨2, ![8, 128]⟩
abbrev S128 : Shape := ⟨1, ![128]⟩

abbrev nBuf : Space → Nat
  | .hbm => 4
  | .vmem => 0
  | .smem => 0
  | _ => 0

abbrev bufTy : (tb : Table) → Fin (tcTables nBuf tb) → BufTy
  | .hbm, ⟨0, _⟩ => ⟨S64x32768, .f32⟩
  | .hbm, ⟨1, _⟩ => ⟨S8x128, .f32⟩
  | .hbm, ⟨2, _⟩ => ⟨S128, .i32⟩
  | .hbm, ⟨3, _⟩ => ⟨S8x128, .i32⟩
  | _, _ => ⟨S64x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.Smallest.Whole.lean ====
/- The whole kernel against the whole reference. Both return arrays of 64 rows and no column: such an array has no
   entry, so that any two of them are equal, and a run that ends with its arguments unchanged ends with the results
   that the other ends with. -/
module

public import proofs.«01_k».proof.Defs
public import proofs.«01_k».proof.Proof.Gen.Kernel.Frame
public import proofs.«01_k».proof.Proof.Gen.KernelIdeal.Frame
public import proofs.«01_k».proof.Proof.Gen.Reference.Run
public import proofs.«01_k».proof.Proof.Gen.ReferenceIdeal.Run
public import Idealize.ShloMosaic.Lib.Claim
public import Idealize.ShloMosaic.Lib.Quiescent

@[expose] public section

noncomputable section

open Idealize.ShloMosaic Idealize.ShloMosaic.TcCoe Idealize.SL.Sem

namespace Cert.Smallest

/-- The results' shape, 64 rows of no entry, has no index. -/
theorem noEntry : IsEmpty Cert.Kernel.S64x0.Idx :=
  ⟨fun i => absurd (i 1).isLt (Nat.not_lt_zero _)⟩

/-- So two arrays of that shape are equal, whatever their entries are taken from. -/
theorem empty_eq {α : Type} (v w : Cert.Kernel.S64x0.Idx → α) : v = w :=
  funext fun i => noEntry.elim i

/-- Over the extended reals the kernel and the reference end with equal results, their arguments unchanged. -/
theorem algebraic : Cert.algebraic_KernelIdeal_ReferenceIdeal := by
  intro m ρ m' ρ' _ _
  refine ⟨fun _ => fun i => noEntry.elim i, fun _ => fun i => noEntry.elim i, ?_, ?_⟩
  · exact (θ_run Cert.KernelIdeal.defs _ _).mono (fun _ h c => ⟨empty_eq _ _, empty_eq _ _, h.1 c⟩)
      (Cert.KernelIdeal.Gen.frame (F := Ideal) m ρ)
  · exact (θ_run Cert.ReferenceIdeal.defs _ _).mono (fun _ h c => ⟨empty_eq _ _, empty_eq _ _, (h c).2.2⟩)
      (Cert.ReferenceIdeal.Value.run (F := Ideal) m' ρ')

/-- As words, too, the kernel and the reference end with equal results, their arguments unchanged. -/
theorem bitexact : Cert.bitexact_Kernel_Reference := by
  intro m ρ m' ρ' _ _
  refine ⟨fun _ => fun i => noEntry.elim i, fun _ => fun i => noEntry.elim i, ?_, ?_⟩
  · exact (θ_run Cert.Kernel.defs _ _).mono (fun _ h c => ⟨empty_eq _ _, empty_eq _ _, h.1 c⟩)
      (Cert.Kernel.Gen.frame (F := Bits) m ρ)
  · exact (θ_run Cert.Reference.defs _ _).mono (fun _ h c => ⟨empty_eq _ _, empty_eq _ _, (h c).2.2⟩)
      (Cert.Reference.Value.run (F := Bits) m' ρ')

end Cert.Smallest

end
-- ==== Proof.Smallest.Call.lean ====
/- What the pallas_call computes. Its one grid point stages the first 8 rows and 128 columns of the argument as one
   block, writes `0 - (0 - t)` of each entry `t`, and writes each entry's column number. Over the extended reals the
   first array is the block itself, the infinities included, and the second counts the columns. -/
module

public import proofs.«01_k».proof.Defs
public import proofs.«01_k».proof.Proof.Gen.CallIdeal.Value
public import proofs.«01_k».proof.Proof.Gen.CandidatesIdeal.Run
public import Idealize.ShloMosaic.Lib.Pipeline.Value
public import Idealize.ShloMosaic.Lib.Pipeline.ValueKit
public import Idealize.ShloMosaic.Lib.Claim
public import Idealize.ShloMosaic.Lib.Quiescent

@[expose] public section

noncomputable section

open Idealize.ShloMosaic Idealize.ShloMosaic.TcCoe Idealize.SL.Sem
open Idealize.ShloMosaic.Pipeline (Dat)

namespace Cert.Smallest

open Cert.CallIdeal Cert.CallIdeal.Gen

variable (m : (ℓ : Loc nD τ sig) → Buf (Elt Ideal) ℓ) (ρ : Dev nD → PrngReg)

/-- Negating twice by subtraction from zero changes no extended real. -/
theorem zero_sub_zero_sub (x : EReal) : (0 : EReal) - (0 - x) = x := by
  simp only [zero_sub, neg_neg]

/-- The first 8 rows and 128 columns of device `c`'s argument. -/
abbrev tile (c : Dev nD) : FVec Ideal S8x128 .f32 :=
  extractStridedSlice S8x128 ![0, 0] (m ((c : Thread nD τ).loc main_arg0)) slices_S64x32768_S8x128_0_0

/-- The column number of each entry, as a 32-bit integer. -/
abbrev column : IVec S8x128 32 := fun i => BitVec.ofNat 32 (i 1 : Nat)

/-- The region finds the sliced block in the array that it stages. -/
theorem staged (c : Dev nD) : V m c main_v0 = tile m c := by
  unfold_abbrev_sides
  after_results

/-- The first window's one block is its whole array: it reads each entry where it stands. -/
theorem block_at0 (t : Fin cfg0.N) (y : S8x128.Idx) : (win0_0.blk t).view.emb y = y := by
  funext a; apply Fin.ext
  match a with
  | ⟨0, _⟩ => show 0 * 8 + 1 * (y 0).val = (y 0).val; omega
  | ⟨1, _⟩ => show 0 * 128 + 1 * (y 1).val = (y 1).val; omega

/-- What the point reads of its input is the sliced block, entry by entry. -/
theorem block_eq (c : Dev nD) (t : Fin cfg0.N) (y : S8x128.Idx) : iblk m c 0 t y = tile m c y := by
  rw [← staged]
  unfold iblk
  blk_simp
  exact congrArg _ (block_at0 t y)

/-- What the point writes for entry `y` of the first array is the block's entry `y`, negated twice. -/
theorem payload_eq (b : FVec Ideal S8x128 .f32) (y : S8x128.Idx) : k0_pay1 b y = b y := by
  refine Eq.trans ?_ (zero_sub_zero_sub (b y))
  rw [Cert.CallIdeal.Value.lay1_0_eq, shapeCast_self]
  show Ideal.ofBits .f32 0x00000000#32 - (Ideal.ofBits .f32 0x00000000#32 - b y) = _
  rw [Ideal.ofBits_zero_f32]

/-- The first array ends as the sliced block. -/
theorem values_eq (c : Dev nD) : (dats m 0 c).arrAt 1 cfg0.N = tile m c := by
  refine (dats m 0 c).arrAt_eq_of_covers 1 _ (by decide +kernel) fun t hf y => ?_
  blk_simp
  rw [after0_1]
  frame_out
  exact (payload_eq _ y).trans ((block_eq m c t y).trans (congrArg (tile m c) (block_at0 t y).symm))

/-- The second array ends as the column numbers. -/
theorem indices_eq (c : Dev nD) : (dats m 0 c).arrAt 2 cfg0.N = column := by
  refine (dats m 0 c).arrAt_eq_of_covers 2 _ (by decide +kernel) fun t hf y => ?_
  blk_simp
  rw [after0_2]
  frame_out
  exact (iota_single_apply .tc S8x128 32 1 _ y).trans (congrArg column (block_at0 t y).symm)

/-- The reference's second result, a row of consecutive numbers repeated down the rows, is the column numbers. -/
theorem repeated_eq : broadcastInDim Cert.CandidatesIdeal.S8x128 ![1] Cert.CandidatesIdeal.Facts₀.bcast_S128_S8x128_1 (iotaInDim Cert.CandidatesIdeal.S128 32 0) = column := by
  funext i
  rfl

/-- Over the extended reals the pallas_call returns the first entries of the first rows and their column numbers. -/
theorem call_algebraic : Cert.algebraic_CallIdeal_CandidatesIdeal := by
  intro m ρ m' ρ' _ hagree
  refine ⟨fun c => tile m c, fun _ => column, ?_, ?_⟩
  · exact (θ_run Cert.CallIdeal.defs _ _).mono
      (fun _ h c => ⟨(h c).1.trans (values_eq m c), (h c).2.1.trans (indices_eq m c), (h c).2.2⟩)
      (Cert.CallIdeal.Value.run_blocks (F := Ideal) m ρ)
  · refine (θ_run Cert.CandidatesIdeal.defs _ _).mono
      (fun _ h c => ⟨(h c).1.trans ?_, (h c).2.1.trans repeated_eq, (h c).2.2⟩)
      (Cert.CandidatesIdeal.Value.run (F := Ideal) m' ρ')
    rw [hagree c]

end Cert.Smallest

end
-- ==== Proof.lean ====
/- The certificate: the frames of the seven programs, and the value claims that the modules under Smallest/ prove. -/
module

public import proofs.«01_k».proof.Defs
public import proofs.«01_k».proof.Proof.Gen.Kernel.Frame
public import proofs.«01_k».proof.Proof.Gen.KernelIdeal.Frame
public import proofs.«01_k».proof.Proof.Gen.Call.Frame
public import proofs.«01_k».proof.Proof.Gen.CallIdeal.Value
public import proofs.«01_k».proof.Proof.Gen.CandidatesIdeal.Run
public import proofs.«01_k».proof.Proof.Gen.ReferenceIdeal.Run
public import proofs.«01_k».proof.Proof.Gen.Reference.Run
public import proofs.«01_k».proof.Proof.Smallest.Whole
public import proofs.«01_k».proof.Proof.Smallest.Call
public import Idealize.ShloMosaic.Lib.Quiescent
public import Idealize.ShloMosaic.Adequacy
public import Idealize.ShloMosaic.Init

@[expose] public section

noncomputable section

namespace Cert.Proof

open Idealize.ShloMosaic Idealize.SL.Sem

/-- The reference over the extended reals ends, its argument unchanged; it has no semaphore to leave above zero. -/
theorem frame_referenceIdeal : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- So does the reference over words. -/
theorem frame_reference : Cert.quiescent_Reference := fun m ρ _ =>
  (θ_run Cert.Reference.defs _ _).mono
    (fun r h => ⟨fun c => (h c).2.2, sem_eq_zero_of_no_sems (by decide) r.2⟩)
    (Cert.Reference.Value.run (F := Bits) m ρ)

/-- So does the pallas_call's reference. -/
theorem frame_candidatesIdeal : Cert.quiescent_CandidatesIdeal := fun m ρ _ =>
  (θ_run Cert.CandidatesIdeal.defs _ _).mono
    (fun r h => ⟨fun c => (h c).2.2, sem_eq_zero_of_no_sems (by decide) r.2⟩)
    (Cert.CandidatesIdeal.Value.run (F := Ideal) m ρ)

/-- Everything that the certificate claims. -/
theorem claim : Cert.Claim :=
  ⟨Cert.Kernel.Gen.facts, Cert.KernelIdeal.Gen.facts, Cert.ReferenceIdeal.Gen.facts, Cert.Reference.Gen.facts,
    Cert.Call.Gen.facts, Cert.CallIdeal.Gen.facts, Cert.CandidatesIdeal.Gen.facts, by
  refine ⟨fun m ρ _ => Cert.Kernel.Gen.frame m ρ, fun m ρ _ => Cert.KernelIdeal.Gen.frame m ρ,
    frame_referenceIdeal, frame_reference, fun m ρ _ => Cert.Call.Gen.frame m ρ,
    fun m ρ _ => Cert.CallIdeal.Gen.frame m ρ, frame_candidatesIdeal, trivial,
    Cert.Smallest.algebraic, Cert.Smallest.bitexact, trivial, Cert.Smallest.call_algebraic⟩⟩

end Cert.Proof

end
